-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x50x37 : Shape := ⟨4, ![8, 512, 50, 37]⟩
abbrev S8x5x4 : Shape := ⟨3, ![8, 5, 4]⟩
abbrev S2x3 : Shape := ⟨2, ![2, 3]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S8x512x1850 : Shape := ⟨3, ![8, 512, 1850]⟩
abbrev S512x3x3x512 : Shape := ⟨4, ![512, 3, 3, 512]⟩
abbrev S512x4608 : Shape := ⟨2, ![512, 4608]⟩
abbrev S18x512 : Shape := ⟨2, ![18, 512]⟩
abbrev S36x512 : Shape := ⟨2, ![36, 512]⟩
abbrev S54x512 : Shape := ⟨2, ![54, 512]⟩
abbrev S54 : Shape := ⟨1, ![54]⟩
abbrev S54x1 : Shape := ⟨2, ![54, 1]⟩
abbrev S512x1 : Shape := ⟨2, ![512, 1]⟩
abbrev S8x18x1850 : Shape := ⟨3, ![8, 18, 1850]⟩
abbrev S8x36x1850 : Shape := ⟨3, ![8, 36, 1850]⟩
abbrev S1x512x1850 : Shape := ⟨3, ![1, 512, 1850]⟩
abbrev S1x18x1850 : Shape := ⟨3, ![1, 18, 1850]⟩
abbrev S1x36x1850 : Shape := ⟨3, ![1, 36, 1850]⟩
abbrev S512x1926 : Shape := ⟨2, ![512, 1926]⟩
abbrev S4608x1850 : Shape := ⟨2, ![4608, 1850]⟩
abbrev S512x38 : Shape := ⟨2, ![512, 38]⟩
abbrev S512x1850 : Shape := ⟨2, ![512, 1850]⟩
abbrev S1x1850 : Shape := ⟨2, ![1, 1850]⟩
abbrev S54x1850 : Shape := ⟨2, ![54, 1850]⟩
abbrev S9x1850 : Shape := ⟨2, ![9, 1850]⟩
abbrev S18x1850 : Shape := ⟨2, ![18, 1850]⟩
abbrev S36x1850 : Shape := ⟨2, ![36, 1850]⟩
abbrev S8x18x50x37 : Shape := ⟨4, ![8, 18, 50, 37]⟩
abbrev S8x36x50x37 : Shape := ⟨4, ![8, 36, 50, 37]⟩

abbrev nBuf : Space → Nat
  | .hbm => 24
  | .vmem => 12
  | .smem => 0
  | _ => 0

abbrev bufTy : (tb : Table) → Fin (tcTables nBuf tb) → BufTy
  | .hbm, ⟨0, _⟩ => ⟨S8x512x50x37, .f32⟩
  | .hbm, ⟨1, _⟩ => ⟨S8x5x4, .f32⟩
  | .hbm, ⟨2, _⟩ => ⟨S2x3, .f32⟩
  | .hbm, ⟨3, _⟩ => ⟨S512x512x3x3, .f32⟩
  | .hbm, ⟨4, _⟩ => ⟨S512, .f32⟩
  | .hbm, ⟨5, _⟩ => ⟨S18x512x1x1, .f32⟩
  | .hbm, ⟨6, _⟩ => ⟨S18, .f32⟩
  | .hbm, ⟨7, _⟩ => ⟨S36x512x1x1, .f32⟩
  | .hbm, ⟨8, _⟩ => ⟨S36, .f32⟩
  | .hbm, ⟨9, _⟩ => ⟨S8x512x1850, .f32⟩
  | .hbm, ⟨10, _⟩ => ⟨S512x3x3x512, .f32⟩
  | .hbm, ⟨11, _⟩ => ⟨S512x4608, .f32⟩
  | .hbm, ⟨12, _⟩ => ⟨S512x4608, .bf16⟩
  | .hbm, ⟨13, _⟩ => ⟨S18x512, .f32⟩
  | .hbm, ⟨14, _⟩ => ⟨S36x512, .f32⟩
  | .hbm, ⟨15, _⟩ => ⟨S54x512, .f32⟩
  | .hbm, ⟨16, _⟩ => ⟨S54x512, .bf16⟩
  | .hbm, ⟨17, _⟩ => ⟨S54, .f32⟩
  | .hbm, ⟨18, _⟩ => ⟨S54x1, .f32⟩
  | .hbm, ⟨19, _⟩ => ⟨S512x1, .f32⟩
  | .hbm, ⟨20, _⟩ => ⟨S8x18x1850, .f32⟩
  | .hbm, ⟨21, _⟩ => ⟨S8x36x1850, .f32⟩
  | .hbm, ⟨22, _⟩ => ⟨S8x18x50x37, .f32⟩
  | .hbm, ⟨23, _⟩ => ⟨S8x36x50x37, .f32⟩
  | .local _ .vmem, ⟨0, _⟩ => ⟨S1x512x1850, .f32⟩
  | .local _ .vmem, ⟨1, _⟩ => ⟨S1x512x1850, .f32⟩
  | .local _ .vmem, ⟨2, _⟩ => ⟨S512x4608, .bf16⟩
  | .local _ .vmem, ⟨3, _⟩ => ⟨S54x512, .bf16⟩
  | .local _ .vmem, ⟨4, _⟩ => ⟨S54x1, .f32⟩
  | .local _ .vmem, ⟨5, _⟩ => ⟨S512x1, .f32⟩
  | .local _ .vmem, ⟨6, _⟩ => ⟨S1x18x1850, .f32⟩
  | .local _ .vmem, ⟨7, _⟩ => ⟨S1x18x1850, .f32⟩
  | .local _ .vmem, ⟨8, _⟩ => ⟨S1x36x1850, .f32⟩
  | .local _ .vmem, ⟨9, _⟩ => ⟨S1x36x1850, .f32⟩
  | .local _ .vmem, ⟨10, _⟩ => ⟨S512x1926, .bf16⟩
  | .local _ .vmem, ⟨11, _⟩ => ⟨S4608x1850, .bf16⟩
  | _, _ => ⟨S8x512x50x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1850 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S54x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S54x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x18x1850 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x36x1850 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x512x50x37 : Shape := ⟨4, ![8, 512, 50, 37]⟩
abbrev S8x5x4 : Shape := ⟨3, ![8, 5, 4]⟩
abbrev S2x3 : Shape := ⟨2, ![2, 3]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S_ : Shape := ⟨0, ![]⟩
abbrev S8x512x52x39 : Shape := ⟨4, ![8, 512, 52, 39]⟩
abbrev S512x512x1x1 : Shape := ⟨4, ![512, 512, 1, 1]⟩
abbrev S512x512 : Shape := ⟨2, ![512, 512]⟩
abbrev S8x50x37x512 : Shape := ⟨4, ![8, 50, 37, 512]⟩
abbrev S1x512x1x1 : Shape := ⟨4, ![1, 512, 1, 1]⟩
abbrev S18x512 : Shape := ⟨2, ![18, 512]⟩
abbrev S8x50x37x18 : Shape := ⟨4, ![8, 50, 37, 18]⟩
abbrev S8x18x50x37 : Shape := ⟨4, ![8, 18, 50, 37]⟩
abbrev S1x18x1x1 : Shape := ⟨4, ![1, 18, 1, 1]⟩
abbrev S36x512 : Shape := ⟨2, ![36, 512]⟩
abbrev S8x50x37x36 : Shape := ⟨4, ![8, 50, 37, 36]⟩
abbrev S8x36x50x37 : Shape := ⟨4, ![8, 36, 50, 37]⟩
abbrev S1x36x1x1 : Shape := ⟨4, ![1, 36, 1, 1]⟩
abbrev S8x2x450x37 : Shape := ⟨4, ![8, 2, 450, 37]⟩
abbrev S8x450x37 : Shape := ⟨3, ![8, 450, 37]⟩
abbrev S8x1x450x37 : Shape := ⟨4, ![8, 1, 450, 37]⟩

abbrev nBuf : Space → Nat
  | .hbm => 99
  | .vmem => 0
  | .smem => 0
  | _ => 0

abbrev bufTy : (tb : Table) → Fin (tcTables nBuf tb) → BufTy
  | .hbm, ⟨0, _⟩ => ⟨S8x512x50x37, .f32⟩
  | .hbm, ⟨1, _⟩ => ⟨S8x5x4, .f32⟩
  | .hbm, ⟨2, _⟩ => ⟨S2x3, .f32⟩
  | .hbm, ⟨3, _⟩ => ⟨S512x512x3x3, .f32⟩
  | .hbm, ⟨4, _⟩ => ⟨S512, .f32⟩
  | .hbm, ⟨5, _⟩ => ⟨S18x512x1x1, .f32⟩
  | .hbm, ⟨6, _⟩ => ⟨S18, .f32⟩
  | .hbm, ⟨7, _⟩ => ⟨S36x512x1x1, .f32⟩
  | .hbm, ⟨8, _⟩ => ⟨S36, .f32⟩
  | .hbm, ⟨9, _⟩ => ⟨S_, .i32⟩
  | .hbm, ⟨10, _⟩ => ⟨S_, .f32⟩
  | .hbm, ⟨11, _⟩ => ⟨S8x512x52x39, .f32⟩
  | .hbm, ⟨12, _⟩ => ⟨S512x512x1x1, .f32⟩
  | .hbm, ⟨13, _⟩ => ⟨S512x512, .f32⟩
  | .hbm, ⟨14, _⟩ => ⟨S8x512x50x37, .f32⟩
  | .hbm, ⟨15, _⟩ => ⟨S8x50x37x512, .f32⟩
  | .hbm, ⟨16, _⟩ => ⟨S8x512x50x37, .f32⟩
  | .hbm, ⟨17, _⟩ => ⟨S512x512x1x1, .f32⟩
  | .hbm, ⟨18, _⟩ => ⟨S512x512, .f32⟩
  | .hbm, ⟨19, _⟩ => ⟨S8x512x50x37, .f32⟩
  | .hbm, ⟨20, _⟩ => ⟨S8x50x37x512, .f32⟩
  | .hbm, ⟨21, _⟩ => ⟨S8x512x50x37, .f32⟩
  | .hbm, ⟨22, _⟩ => ⟨S8x512x50x37, .f32⟩
  | .hbm, ⟨23, _⟩ => ⟨S512x512x1x1, .f32⟩
  | .hbm, ⟨24, _⟩ => ⟨S512x512, .f32⟩
  | .hbm, ⟨25, _⟩ => ⟨S8x512x50x37, .f32⟩
  | .hbm, ⟨26, _⟩ => ⟨S8x50x37x512, .f32⟩
  | .hbm, ⟨27, _⟩ => ⟨S8x512x50x37, .f32⟩
  | .hbm, ⟨28, _⟩ => ⟨S8x512x50x37, .f32⟩
  | .hbm, ⟨29, _⟩ => ⟨S512x512x1x1, .f32⟩
  | .hbm, ⟨30, _⟩ => ⟨S512x512, .f32⟩
  | .hbm, ⟨31, _⟩ => ⟨S8x512x50x37, .f32⟩
  | .hbm, ⟨32, _⟩ => ⟨S8x50x37x512, .f32⟩
  | .hbm, ⟨33, _⟩ => ⟨S8x512x50x37, .f32⟩
  | .hbm, ⟨34, _⟩ => ⟨S8x512x50x37, .f32⟩
  | .hbm, ⟨35, _⟩ => ⟨S512x512x1x1, .f32⟩
  | .hbm, ⟨36, _⟩ => ⟨S512x512, .f32⟩
  | .hbm, ⟨37, _⟩ => ⟨S8x512x50x37, .f32⟩
  | .hbm, ⟨38, _⟩ => ⟨S8x50x37x512, .f32⟩
  | .hbm, ⟨39, _⟩ => ⟨S8x512x50x37, .f32⟩
  | .hbm, ⟨40, _⟩ => ⟨S8x512x50x37, .f32⟩
  | .hbm, ⟨41, _⟩ => ⟨S512x512x1x1, .f32⟩
  | .hbm, ⟨42, _⟩ => ⟨S512x512, .f32⟩
  | .hbm, ⟨43, _⟩ => ⟨S8x512x50x37, .f32⟩
  | .hbm, ⟨44, _⟩ => ⟨S8x50x37x512, .f32⟩
  | .hbm, ⟨45, _⟩ => ⟨S8x512x50x37, .f32⟩
  | .hbm, ⟨46, _⟩ => ⟨S8x512x50x37, .f32⟩
  | .hbm, ⟨47, _⟩ => ⟨S512x512x1x1, .f32⟩
  | .hbm, ⟨48, _⟩ => ⟨S512x512, .f32⟩
  | .hbm, ⟨49, _⟩ => ⟨S8x512x50x37, .f32⟩
  | .hbm, ⟨50, _⟩ => ⟨S8x50x37x512, .f32⟩
  | .hbm, ⟨51, _⟩ => ⟨S8x512x50x37, .f32⟩
  | .hbm, ⟨52, _⟩ => ⟨S8x512x50x37, .f32⟩
  | .hbm, ⟨53, _⟩ => ⟨S512x512x1x1, .f32⟩
  | .hbm, ⟨54, _⟩ => ⟨S512x512, .f32⟩
  | .hbm, ⟨55, _⟩ => ⟨S8x512x50x37, .f32⟩
  | .hbm, ⟨56, _⟩ => ⟨S8x50x37x512, .f32⟩
  | .hbm, ⟨57, _⟩ => ⟨S8x512x50x37, .f32⟩
  | .hbm, ⟨58, _⟩ => ⟨S8x512x50x37, .f32⟩
  | .hbm, ⟨59, _⟩ => ⟨S512x512x1x1, .f32⟩
  | .hbm, ⟨60, _⟩ => ⟨S512x512, .f32⟩
  | .hbm, ⟨61, _⟩ => ⟨S8x512x50x37, .f32⟩
  | .hbm, ⟨62, _⟩ => ⟨S8x50x37x512, .f32⟩
  | .hbm, ⟨63, _⟩ => ⟨S8x512x50x37, .f32⟩
  | .hbm, ⟨64, _⟩ => ⟨S8x512x50x37, .f32⟩
  | .hbm, ⟨65, _⟩ => ⟨S1x512x1x1, .f32⟩
  | .hbm, ⟨66, _⟩ => ⟨S8x512x50x37, .f32⟩
  | .hbm, ⟨67, _⟩ => ⟨S8x512x50x37, .f32⟩
  | .hbm, ⟨68, _⟩ => ⟨S_, .f32⟩
  | .hbm, ⟨69, _⟩ => ⟨S8x512x50x37, .f32⟩
  | .hbm, ⟨70, _⟩ => ⟨S8x512x50x37, .f32⟩
  | .hbm, ⟨71, _⟩ => ⟨S18x512, .f32⟩
  | .hbm, ⟨72, _⟩ => ⟨S8x50x37x18, .f32⟩
  | .hbm, ⟨73, _⟩ => ⟨S8x18x50x37, .f32⟩
  | .hbm, ⟨74, _⟩ => ⟨S1x18x1x1, .f32⟩
  | .hbm, ⟨75, _⟩ => ⟨S8x18x50x37, .f32⟩
  | .hbm, ⟨76, _⟩ => ⟨S8x18x50x37, .f32⟩
  | .hbm, ⟨77, _⟩ => ⟨S36x512, .f32⟩
  | .hbm, ⟨78, _⟩ => ⟨S8x50x37x36, .f32⟩
  | .hbm, ⟨79, _⟩ => ⟨S8x36x50x37, .f32⟩
  | .hbm, ⟨80, _⟩ => ⟨S1x36x1x1, .f32⟩
  | .hbm, ⟨81, _⟩ => ⟨S8x36x50x37, .f32⟩
  | .hbm, ⟨82, _⟩ => ⟨S8x36x50x37, .f32⟩
  | .hbm, ⟨83, _⟩ => ⟨S8x2x450x37, .f32⟩
  | .hbm, ⟨84, _⟩ => ⟨S_, .f32⟩
  | .hbm, ⟨85, _⟩ => ⟨S8x450x37, .f32⟩
  | .hbm, ⟨86, _⟩ => ⟨S_, .f32⟩
  | .hbm, ⟨87, _⟩ => ⟨S8x450x37, .f32⟩
  | .hbm, ⟨88, _⟩ => ⟨S8x450x37, .f32⟩
  | .hbm, ⟨89, _⟩ => ⟨S8x1x450x37, .f32⟩
  | .hbm, ⟨90, _⟩ => ⟨S8x2x450x37, .f32⟩
  | .hbm, ⟨91, _⟩ => ⟨S8x2x450x37, .f32⟩
  | .hbm, ⟨92, _⟩ => ⟨S8x2x450x37, .f32⟩
  | .hbm, ⟨93, _⟩ => ⟨S_, .f32⟩
  | .hbm, ⟨94, _⟩ => ⟨S8x450x37, .f32⟩
  | .hbm, ⟨95, _⟩ => ⟨S8x1x450x37, .f32⟩
  | .hbm, ⟨96, _⟩ => ⟨S8x2x450x37, .f32⟩
  | .hbm, ⟨97, _⟩ => ⟨S8x2x450x37, .f32⟩
  | .hbm, ⟨98, _⟩ => ⟨S8x18x50x37, .f32⟩
  | _, _ => ⟨S8x512x50x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_call1_cst : Ref sig .tc := ⟨.hbm, 68, rfl⟩
abbrev main_call1_v0 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst : Ref sig .tc := ⟨.hbm, 84, rfl⟩
abbrev main_v71 : Ref sig .tc := ⟨.hbm, 85, rfl⟩
abbrev main_cst_0 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_1 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Proof.Spec.lean ====
module

public import Idealize.ShloMosaic.Lib.Pointwise

set_option maxRecDepth 16384

@[expose] public section

open Idealize Idealize.ShloMosaic

noncomputable section

namespace Cert.Spec

/-- The shape of the feature map and of the hidden map: batch, channel, row, column. -/
abbrev FeatS : Shape := ⟨4, ![8, 512, 50, 37]⟩
/-- The shape of the convolution's weights: output channel, input channel, window row, window column. -/
abbrev ConvS : Shape := ⟨4, ![512, 512, 3, 3]⟩

/-- The feature map with a border of zeros one wide: row and column count from the border's. -/
def padded (x : FeatS.Idx → EReal) (b : Fin 8) (c : Fin 512) (u v : ℕ) : EReal :=
  if h : (1 ≤ u ∧ u ≤ 50) ∧ 1 ≤ v ∧ v ≤ 37 then x (ix4 b c ⟨u - 1, by omega⟩ ⟨v - 1, by omega⟩) else 0

/-- One tap of the 3×3 convolution: the sum over the input channels at window row `i` and column `j`. -/
def tap (x : FeatS.Idx → EReal) (W : ConvS.Idx → EReal) (b : Fin 8) (o : Fin 512) (h w : ℕ) (i j : Fin 3) : EReal :=
  ∑ c : Fin 512, W (ix4 o c i j) * padded x b c (h + i.val) (w + j.val)

/-- The convolution: its nine taps added up. -/
def conv (x : FeatS.Idx → EReal) (W : ConvS.Idx → EReal) (b : Fin 8) (o : Fin 512) (h w : ℕ) : EReal :=
  ∑ k : Fin 9, tap x W b o h w ⟨k.val / 3, by omega⟩ ⟨k.val % 3, by omega⟩

/-- The convolution as its nine taps in order, added from the left. -/
theorem conv_taps (x : FeatS.Idx → EReal) (W : ConvS.Idx → EReal) (b : Fin 8) (o : Fin 512) (h w : ℕ) :
    conv x W b o h w = tap x W b o h w 0 0 + tap x W b o h w 0 1 + tap x W b o h w 0 2 + tap x W b o h w 1 0 + tap x W b o h w 1 1
      + tap x W b o h w 1 2 + tap x W b o h w 2 0 + tap x W b o h w 2 1 + tap x W b o h w 2 2 := by
  unfold conv
  simp only [Fin.sum_univ_castSucc, Fin.sum_univ_zero, zero_add]
  rfl

/-- The hidden map: the convolution, its bias, and the positive part. -/
def hidden (x : FeatS.Idx → EReal) (W : ConvS.Idx → EReal) (β : Fin 512 → EReal) (b : Fin 8) (o : Fin 512) (h w : ℕ) : EReal :=
  max (conv x W b o h w + β o) 0

/-- A row of weights applied to the hidden map at one position, and that row's bias. -/
def head (x : FeatS.Idx → EReal) (W : ConvS.Idx → EReal) (β : Fin 512 → EReal) (w₁ : Fin 512 → EReal) (b₁ : EReal)
    (b : Fin 8) (h w : ℕ) : EReal :=
  (∑ o : Fin 512, w₁ o * hidden x W β b o h w) + b₁

/-- The share of member `k` in the softmax of a pair. -/
def share (z : Fin 2 → EReal) (k : Fin 2) : EReal :=
  Ideal.div (Ideal.exp (z k - max (z 0) (z 1))) (Ideal.exp (z 0 - max (z 0) (z 1)) + Ideal.exp (z 1 - max (z 0) (z 1)))

/-- The share written out, from the pair's members and the member it is of. -/
theorem share_of {z : Fin 2 → EReal} {k : Fin 2} {u v w : EReal} (h0 : z 0 = u) (h1 : z 1 = v) (hk : z k = w) :
    Ideal.div (Ideal.exp (w - max u v)) (Ideal.exp (u - max u v) + Ideal.exp (v - max u v)) = share z k := by
  subst h0 h1 hk
  rfl

/-- The softmax of a pair, its maximum and its sum taken over the pair's two members and the maximum started twice from
    minus infinity, is the share. -/
theorem share_of_folds {z f g : Fin 2 → EReal} {k : Fin 2} {u least : EReal} (hl : least = ⊥) (hf : ∀ k, f k = z k) (hg : ∀ k, g k = z k) (hu : z k = u) :
    Ideal.div (Ideal.exp (u - max least (Finset.fold max least f Finset.univ)))
      (∑ x, Ideal.exp (g x - max least (Finset.fold max least f Finset.univ))) = share z k := by
  subst hl
  obtain rfl : f = z := funext hf
  obtain rfl : g = f := funext hg
  have hm : max ⊥ (Finset.fold max ⊥ g Finset.univ) = max (g 0) (g 1) := by
    rw [show (Finset.univ : Finset (Fin 2)) = {0, 1} from rfl, Finset.fold_insert (by decide), Finset.fold_singleton]
    simp
  rw [hm, Fin.sum_univ_two]
  exact share_of rfl rfl hu

end Cert.Spec
-- ==== Proof.KernelBlock.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Routing.Words

set_option maxRecDepth 16384

@[expose] public section

open Idealize Idealize.ShloMosaic Idealize.ShloMosaic.Pipeline

noncomputable section

namespace Cert.KernelIdeal.Block

open Cert.KernelIdeal Cert.KernelIdeal.Gen

/-- Channel `c` of the flattened feature block at position `q` of the widened row: 38 zeros, the 1850 values, 38 zeros. -/
def xrow (X : Vec Ideal S1x512x1850 .f32) (c : Fin 512) (q : ℕ) : EReal :=
  if h : 38 ≤ q ∧ q < 1888 then X (ix3 0 c ⟨q - 38, by omega⟩) else 0

/-- What tap `k` of the 3×3 window reads at channel `c` and flat position `p`: the shifted row, zero where the shift would
    run over the left or the right edge of the map. -/
def tapAt (X : Vec Ideal S1x512x1850 .f32) (k : ℕ) (c : Fin 512) (p : ℕ) : EReal :=
  if (k % 3 = 0 ∧ p % 37 = 0) ∨ (k % 3 = 2 ∧ p % 37 = 36) then 0 else xrow X c (p + (k / 3 * 37 + k % 3))

/-- The widened scratch row as one array. -/
def widened (X : Vec Ideal S1x512x1850 .f32) : Vec Ideal S512x1926 .bf16 := fun y => xrow X (y 0) (y 1).val

/-- The nine taps stacked along the contraction axis, tap `k` in rows `512 k … 512 k + 511`. -/
def patches (X : Vec Ideal S1x512x1850 .f32) : Vec Ideal S4608x1850 .bf16 := fun y =>
  tapAt X ((y 0).val / 512) ⟨(y 0).val % 512, by omega⟩ (y 1).val

/-- The column word: position `p` holds `p mod 37`. -/
theorem column_apply (p : Fin 1850) : k0_pay8 (ix2 0 p) = BitVec.ofNat 32 (p.val % 37) := by
  have hsel : Scalar.select (Scalar.cmpi CmpIPredicate.eq 37#32 0#32) 1#32 37#32 = BitVec.ofNat 32 37 := by decide
  have hp := p.isLt
  unfold k0_pay8
  pointwise
  rw [hsel, Routing.remsi_word _ (by omega) (by omega) (by omega)]
  have hr : p.val % 37 < 37 := Nat.mod_lt _ (by omega)
  generalize p.val % 37 = r at hr
  revert hr
  revert r
  decide

/-- The mask of the left taps: one except in the first column. -/
theorem notFirst_apply (p : Fin 1850) : k0_pay9 (ix2 0 p) = BitVec.ofBool (decide (p.val % 37 ≠ 0)) := by
  unfold k0_pay9
  pointwise
  rw [column_apply]
  have hr : p.val % 37 < 37 := Nat.mod_lt _ (by omega)
  generalize p.val % 37 = r at hr
  revert hr
  revert r
  decide

/-- The mask of the right taps: one except in the last column. -/
theorem notLast_apply (p : Fin 1850) : k0_pay10 (ix2 0 p) = BitVec.ofBool (decide (p.val % 37 ≠ 36)) := by
  unfold k0_pay10
  pointwise
  rw [column_apply]
  have hr : p.val % 37 < 37 := Nat.mod_lt _ (by omega)
  generalize p.val % 37 = r at hr
  revert hr
  revert r
  decide

/-- The stores into the row scratch, the last one first. -/
def rowStores (X : Vec Ideal S1x512x1850 .f32) : List (View.Piece (Elt Ideal) S512x1926 .bf16) :=
  [⟨Rect.unit ![0, 38] ![512, 1850] inb_S512x1926_S512x1850_0_38, k0_pay7 X⟩,
    ⟨Rect.unit ![0, 1888] ![512, 38] inb_S512x1926_S512x38_0_1888, k0_pay6 (F := Ideal)⟩,
    ⟨Rect.unit ![0, 0] ![512, 38] inb_S512x1926_S512x38_0_0, k0_pay5 (F := Ideal)⟩]

/-- The three stores cover the row scratch. -/
theorem rowStores_cover (X : Vec Ideal S1x512x1850 .f32) (y : S512x1926.Idx) : ∃ p ∈ rowStores X, y ∈ p.1.set := by
  idx_vars y
  unfold rowStores
  simp only [List.exists_mem_cons_iff, List.not_mem_nil, false_and, exists_false, or_false, Rect.mem_set_unit, Fin.forall_fin_two]
  have h0 := y0.isLt
  have h1 := y1.isLt
  change ((0 ≤ y0.val ∧ y0.val < 0 + 512) ∧ 38 ≤ y1.val ∧ y1.val < 38 + 1850) ∨
    ((0 ≤ y0.val ∧ y0.val < 0 + 512) ∧ 1888 ≤ y1.val ∧ y1.val < 1888 + 38) ∨
    ((0 ≤ y0.val ∧ y0.val < 0 + 512) ∧ 0 ≤ y1.val ∧ y1.val < 0 + 38)
  omega

/-- The three stores into the row scratch leave the widened row. -/
theorem rowStores_canon (X : Vec Ideal S1x512x1850 .f32) : View.canon (rowStores X) = widened X := by
  funext y
  have hcov := rowStores_cover X y
  idx_vars y
  unfold rowStores at *
  canon_tiles x h using hcov
  all_goals
    idx_vars x
    clear hcov
    change y0.val = x0.val at h0
    obtain rfl : y0 = x0 := Fin.ext h0
    change _ = xrow X y0 y1.val
    unfold xrow
  · change y1.val = 38 + x1.val at h1
    rw [dif_pos (by omega)]
    pointwise [k0_pay7]
    exact congrArg (fun q => X (ix3 0 y0 q)) (Fin.ext (by change x1.val = y1.val - 38; omega))
  · change y1.val = 1888 + x1.val at h1
    rw [dif_neg (by omega)]
    pointwise [k0_pay6, k0_pay4]
  · change y1.val = x1.val at h1
    rw [dif_neg (by omega)]
    pointwise [k0_pay5, k0_pay4]

/-- The 1850 columns of the widened row from column `s` on. -/
def shifted (X : Vec Ideal S1x512x1850 .f32) (s : ℕ) : Vec Ideal S512x1850 .bf16 := fun y => xrow X (y 0) ((y 1).val + s)

/-- A load of 1850 columns of the row scratch, after the three stores into it. -/
theorem rowStores_read (v : View sig .tc .vmem S512x1926 .bf16) (X : Vec Ideal S1x512x1850 .f32) (s : ℕ)
    (inb : ∀ a, (![0, s] : Fin 2 → ℕ) a + (![512, 1850] : Fin 2 → ℕ) a ≤ S512x1926.size a) :
    v.readCov (rowStores X) (Rect.unit ![0, s] ![512, 1850] inb).toLoadRect = shifted X s := by
  rw [View.readCov_eq_canon', rowStores_canon]
  funext j
  refine congrArg₂ (xrow X) (Fin.ext ?_) ?_
  · rw [Rect.idx_unit_val]
    exact Nat.zero_add _
  · rw [Rect.idx_unit_val]
    exact Nat.add_comm _ _

/-- The nine stores into the tap scratch, the last one first. -/
def tapStores (X : Vec Ideal S1x512x1850 .f32) : List (View.Piece (Elt Ideal) S4608x1850 .bf16) :=
  [⟨Rect.unit ![4096, 0] ![512, 1850] inb_S4608x1850_S512x1850_4096_0,
      k0_pay19 k0_pay10 (shifted X 76)⟩,
    ⟨Rect.unit ![3584, 0] ![512, 1850] inb_S4608x1850_S512x1850_3584_0,
      k0_pay18 (shifted X 75)⟩,
    ⟨Rect.unit ![3072, 0] ![512, 1850] inb_S4608x1850_S512x1850_3072_0,
      k0_pay17 k0_pay9 (shifted X 74)⟩,
    ⟨Rect.unit ![2560, 0] ![512, 1850] inb_S4608x1850_S512x1850_2560_0,
      k0_pay16 k0_pay10 (shifted X 39)
        (FloatOps.ofBits FTy.bf16 0#16)⟩,
    ⟨Rect.unit ![2048, 0] ![512, 1850] inb_S4608x1850_S512x1850_2048_0, k0_pay15 (k0_pay7 X)⟩,
    ⟨Rect.unit ![1536, 0] ![512, 1850] inb_S4608x1850_S512x1850_1536_0,
      k0_pay14 k0_pay9 (shifted X 37)⟩,
    ⟨Rect.unit ![1024, 0] ![512, 1850] inb_S4608x1850_S512x1850_1024_0,
      k0_pay13 k0_pay10 (shifted X 2)⟩,
    ⟨Rect.unit ![512, 0] ![512, 1850] inb_S4608x1850_S512x1850_512_0,
      k0_pay12 (shifted X 1)⟩,
    ⟨Rect.unit ![0, 0] ![512, 1850] inb_S4608x1850_S512x1850_0_0,
      k0_pay11 k0_pay9 (shifted X 0)
        (FloatOps.ofBits FTy.bf16 0#16)⟩]

/-- The stacked taps in the rows of tap `k`. -/
theorem patches_apply (X : Vec Ideal S1x512x1850 .f32) (k : ℕ) (a : Fin 512) (r : Fin 4608) (p : Fin 1850) (h : r.val = 512 * k + a.val) :
    patches X (ix2 r p) = tapAt X k a p.val := by
  have ha := a.isLt
  change tapAt X (r.val / 512) ⟨r.val % 512, _⟩ p.val = _
  congr 1
  · omega
  · exact Fin.ext (by change r.val % 512 = a.val; omega)

/-- A tap of the middle column reads the shifted row. -/
theorem tapAt_mid (X : Vec Ideal S1x512x1850 .f32) (k : ℕ) (a : Fin 512) (p : Fin 1850) (h : k % 3 = 1) :
    shifted X (k / 3 * 37 + k % 3) (ix2 a p) = tapAt X k a p.val := by
  unfold tapAt
  rw [if_neg (by omega)]
  rfl

/-- A tap of the left column reads the shifted row under its mask. -/
theorem tapAt_left (X : Vec Ideal S1x512x1850 .f32) (k : ℕ) (a : Fin 512) (p : Fin 1850) (h : k % 3 = 0) :
    Scalar.select (k0_pay9 (ix2 0 p)) (shifted X (k / 3 * 37 + k % 3) (ix2 a p)) 0 = tapAt X k a p.val := by
  rw [notFirst_apply]
  unfold tapAt
  by_cases hp : p.val % 37 = 0
  · rw [if_pos (by omega), decide_eq_false (by omega)]
    rfl
  · rw [if_neg (by omega), decide_eq_true (by omega)]
    rfl

/-- A tap of the right column reads the shifted row under its mask. -/
theorem tapAt_right (X : Vec Ideal S1x512x1850 .f32) (k : ℕ) (a : Fin 512) (p : Fin 1850) (h : k % 3 = 2) :
    Scalar.select (k0_pay10 (ix2 0 p)) (shifted X (k / 3 * 37 + k % 3) (ix2 a p)) 0 = tapAt X k a p.val := by
  rw [notLast_apply]
  unfold tapAt
  by_cases hp : p.val % 37 = 36
  · rw [if_pos (by omega), decide_eq_false (by omega)]
    rfl
  · rw [if_neg (by omega), decide_eq_true (by omega)]
    rfl

/-- The cast of the block is the row shifted by its own margin. -/
theorem cast_apply (X : Vec Ideal S1x512x1850 .f32) (a : Fin 512) (p : Fin 1850) : k0_pay7 X (ix2 a p) = shifted X 38 (ix2 a p) := by
  have hp := p.isLt
  change _ = xrow X a (p.val + 38)
  unfold xrow
  rw [dif_pos (by omega)]
  pointwise [k0_pay7]
  rfl

/-- The nine stores leave the stacked taps. -/
theorem tapStores_canon (X : Vec Ideal S1x512x1850 .f32) : View.canon (tapStores X) = patches X := by
  funext y
  idx_vars y
  unfold tapStores
  canon_tiles x h
  all_goals
    idx_vars x
    obtain rfl : y1 = x1 := Fin.ext h1
    pointwise [k0_pay11, k0_pay12, k0_pay13, k0_pay14, k0_pay15, k0_pay16, k0_pay17, k0_pay18, k0_pay19]
  · exact (tapAt_right X 8 x0 y1 rfl).trans (patches_apply X 8 x0 y0 y1 h0).symm
  · exact (tapAt_mid X 7 x0 y1 rfl).trans (patches_apply X 7 x0 y0 y1 h0).symm
  · exact (tapAt_left X 6 x0 y1 rfl).trans (patches_apply X 6 x0 y0 y1 h0).symm
  · exact (tapAt_right X 5 x0 y1 rfl).trans (patches_apply X 5 x0 y0 y1 h0).symm
  · exact (cast_apply X x0 y1).trans ((tapAt_mid X 4 x0 y1 rfl).trans (patches_apply X 4 x0 y0 y1 h0).symm)
  · exact (tapAt_left X 3 x0 y1 rfl).trans (patches_apply X 3 x0 y0 y1 h0).symm
  · exact (tapAt_right X 2 x0 y1 rfl).trans (patches_apply X 2 x0 y0 y1 h0).symm
  · exact (tapAt_mid X 1 x0 y1 rfl).trans (patches_apply X 1 x0 y0 y1 h0).symm
  · exact (tapAt_left X 0 x0 y1 rfl).trans (patches_apply X 0 x0 y0 y1 (h0.trans (Nat.zero_add _).symm)).symm

/-- A load of the whole tap scratch, after the nine stores into it. -/
theorem tapStores_read (v : View sig .tc .vmem S4608x1850 .bf16) (X : Vec Ideal S1x512x1850 .f32)
    (inb : ∀ a, (![0, 0] : Fin 2 → ℕ) a + (![4608, 1850] : Fin 2 → ℕ) a ≤ S4608x1850.size a) :
    v.readCov (tapStores X) (Rect.unit ![0, 0] ![4608, 1850] inb).toLoadRect = patches X := by
  rw [View.readCov_eq_canon', tapStores_canon]
  funext j
  refine congrArg (patches X) (funext fun a => Fin.ext ?_)
  rw [Rect.idx_unit_val]
  revert a
  exact Fin.forall_fin_two.mpr ⟨Nat.zero_add _, Nat.zero_add _⟩

/-- The class block that the body leaves at a point, from the blocks it reads there. -/
theorem outsAt_fst (m : (ℓ : Loc nD τ sig) → Buf (Elt Ideal) ℓ) (c : Dev nD) (t : Fin grid0.N) : (outsAt0 m c t).1 =
    k0_pay2 (k0_pay20 (iblk m c 1 t) (patches (iblk m c 0 t))) (k0_pay21 (iblk m c 4 t)) (iblk m c 2 t) (iblk m c 3 t) := by
  unfold outsAt0
  frame_open
  simp (disch := decide) only [↓ View.readCov_skip, ↓ View.readCov_cons_toLoadRect, ↓ View.readCov_fill]
  frame_out
  simp only [← rowStores.eq_1, rowStores_read]
  simp only [← tapStores.eq_1, tapStores_read]

/-- The location block that the body leaves at a point, from the blocks it reads there. -/
theorem outsAt_snd (m : (ℓ : Loc nD τ sig) → Buf (Elt Ideal) ℓ) (c : Dev nD) (t : Fin grid0.N) : (outsAt0 m c t).2 =
    k0_pay3 (k0_pay20 (iblk m c 1 t) (patches (iblk m c 0 t))) (k0_pay21 (iblk m c 4 t)) (iblk m c 2 t) (iblk m c 3 t) := by
  unfold outsAt0
  frame_open
  simp (disch := decide) only [↓ View.readCov_skip, ↓ View.readCov_cons_toLoadRect, ↓ View.readCov_fill]
  frame_out
  simp only [← rowStores.eq_1, rowStores_read]
  simp only [← tapStores.eq_1, tapStores_read]

end Cert.KernelIdeal.Block
-- ==== Proof.KernelHost.lean ====
module

public import proofs.«01_k».proof.Proof.KernelBlock
public import Idealize.ShloMosaic.Lib.Claim
public import Idealize.ShloMosaic.Lib.Tactic.CleanTypes

set_option maxRecDepth 16384

@[expose] public section

open Idealize Idealize.SL Idealize.SL.Sem Idealize.ShloMosaic Idealize.ShloMosaic.Pipeline

noncomputable section

namespace Cert.KernelIdeal.Host

open Cert.KernelIdeal Cert.KernelIdeal.Gen

variable (m : (ℓ : Loc nD τ sig) → Buf (Elt Ideal) ℓ) (g : Dev nD → PrngReg)

/-- The feature map that the program is given on core `c`. -/
def feats (c : Dev nD) : Vec Ideal S8x512x50x37 .f32 := m ((c.tc : Thread nD τ).loc main_arg0)

/-- The convolution's weights that the program is given on core `c`. -/
def convW (c : Dev nD) : Vec Ideal S512x512x3x3 .f32 := m ((c.tc : Thread nD τ).loc main_arg3)

/-- The convolution's bias that the program is given on core `c`. -/
def convB (c : Dev nD) : Vec Ideal S512 .f32 := m ((c.tc : Thread nD τ).loc main_arg4)

/-- The class head's weights that the program is given on core `c`. -/
def clsW (c : Dev nD) : Vec Ideal S18x512x1x1 .f32 := m ((c.tc : Thread nD τ).loc main_arg5)

/-- The class head's bias that the program is given on core `c`. -/
def clsB (c : Dev nD) : Vec Ideal S18 .f32 := m ((c.tc : Thread nD τ).loc main_arg6)

/-- The location head's weights that the program is given on core `c`. -/
def locW (c : Dev nD) : Vec Ideal S36x512x1x1 .f32 := m ((c.tc : Thread nD τ).loc main_arg7)

/-- The location head's bias that the program is given on core `c`. -/
def locB (c : Dev nD) : Vec Ideal S36 .f32 := m ((c.tc : Thread nD τ).loc main_arg8)

/-- What the region finds on core `c`: the flattened feature map. -/
def hostX (c : Dev nD) : Vec Ideal S8x512x1850 .f32 := V m c main_v0

/-- What the region finds on core `c`: the convolution's weights as one matrix. -/
def hostWk (c : Dev nD) : Vec Ideal S512x4608 .bf16 := V m c main_v3

/-- What the region finds on core `c`: the two heads' weights stacked. -/
def hostWhead (c : Dev nD) : Vec Ideal S54x512 .bf16 := V m c main_v7

/-- What the region finds on core `c`: the two heads' biases stacked. -/
def hostBhead (c : Dev nD) : Vec Ideal S54x1 .f32 := V m c main_v9

/-- What the region finds on core `c`: the convolution's bias as a column. -/
def hostBconv (c : Dev nD) : Vec Ideal S512x1 .f32 := V m c main_v10

/-- As the operations before the region compute it: the flattened feature map. -/
theorem hostX_eq (c : Dev nD) : hostX m c =
    shapeCast S8x512x1850 (feats m c) shapeCasts_S8x512x50x37_S8x512x1850 := by
  change StableHlo.after (List.flatten [hostOps0]) (fun b => m (c, b)) (Proc.devRef .tc main_v0) = _
  simp only [List.flatten_cons, List.flatten_nil, List.append_nil]
  unfold hostOps0
  after_results
  rfl

/-- As the operations before the region compute it: the convolution's weights as one matrix. -/
theorem hostWk_eq (c : Dev nD) : hostWk m c =
    truncf (F := Ideal) (φ := .f32) .bf16 (shapeCast S512x4608 (transpose S512x3x3x512 [0, 2, 3, 1] (convW m c) transposes_S512x512x3x3_S512x3x3x512_0_2_3_1) shapeCasts_S512x3x3x512_S512x4608) bitsLt_bf16_f32 := by
  change StableHlo.after (List.flatten [hostOps0]) (fun b => m (c, b)) (Proc.devRef .tc main_v3) = _
  simp only [List.flatten_cons, List.flatten_nil, List.append_nil]
  unfold hostOps0
  after_results
  rfl

/-- As the operations before the region compute it: the two heads' weights stacked. -/
theorem hostWhead_eq (c : Dev nD) : hostWhead m c =
    truncf (F := Ideal) (φ := .f32) .bf16 (concatenate S54x512 0 [⟨S18x512, shapeCast S18x512 (clsW m c) shapeCasts_S18x512x1x1_S18x512⟩, ⟨S36x512, shapeCast S36x512 (locW m c) shapeCasts_S36x512x1x1_S36x512⟩] concatenates_S18x512_S36x512_S54x512_d0) bitsLt_bf16_f32 := by
  change StableHlo.after (List.flatten [hostOps0]) (fun b => m (c, b)) (Proc.devRef .tc main_v7) = _
  simp only [List.flatten_cons, List.flatten_nil, List.append_nil]
  unfold hostOps0
  after_results
  rfl

/-- As the operations before the region compute it: the two heads' biases stacked. -/
theorem hostBhead_eq (c : Dev nD) : hostBhead m c =
    shapeCast S54x1 (concatenate S54 0 [⟨S18, clsB m c⟩, ⟨S36, locB m c⟩] concatenates_S18_S36_S54_d0) shapeCasts_S54_S54x1 := by
  change StableHlo.after (List.flatten [hostOps0]) (fun b => m (c, b)) (Proc.devRef .tc main_v9) = _
  simp only [List.flatten_cons, List.flatten_nil, List.append_nil]
  unfold hostOps0
  after_results
  rfl

/-- As the operations before the region compute it: the convolution's bias as a column. -/
theorem hostBconv_eq (c : Dev nD) : hostBconv m c =
    shapeCast S512x1 (convB m c) shapeCasts_S512_S512x1 := by
  change StableHlo.after (List.flatten [hostOps0]) (fun b => m (c, b)) (Proc.devRef .tc main_v10) = _
  simp only [List.flatten_cons, List.flatten_nil, List.append_nil]
  unfold hostOps0
  after_results
  rfl

/-- The flattened feature map at channel `a` and flat position `p`. -/
theorem hostX_apply (c : Dev nD) (b : Fin 8) (a : Fin 512) (p : Fin 1850) :
    hostX m c (ix3 b a p) = feats m c (ix4 b a ⟨p.val / 37, by omega⟩ ⟨p.val % 37, by omega⟩) := by
  rw [hostX_eq]
  pointwise

/-- The convolution's matrix at output channel `o`, in the columns of tap `k`. -/
theorem hostWk_apply (c : Dev nD) (o : Fin 512) (k : Fin 9) (a : Fin 512) (r : Fin 4608) (h : r.val = 512 * k.val + a.val) :
    hostWk m c (ix2 o r) = convW m c (ix4 o a ⟨k.val / 3, by omega⟩ ⟨k.val % 3, by omega⟩) := by
  rw [hostWk_eq]
  pointwise
  have ha := a.isLt
  congr 2
  · exact Fin.ext (by change r.val % 512 = a.val; omega)
  · exact Fin.ext (by change r.val / 1536 = k.val / 3; omega)
  · exact Fin.ext (by change r.val / 512 % 3 = k.val % 3; omega)

/-- Row `o` of the two heads' weights, stacked. -/
def headW (c : Dev nD) (o : Fin 54) (a : Fin 512) : EReal :=
  if h : o.val < 18 then clsW m c (ix4 ⟨o.val, h⟩ a 0 0) else locW m c (ix4 ⟨o.val - 18, by omega⟩ a 0 0)

/-- Row `o` of the two heads' biases, stacked. -/
def headB (c : Dev nD) (o : Fin 54) : EReal :=
  if h : o.val < 18 then clsB m c (ix1 ⟨o.val, h⟩) else locB m c (ix1 ⟨o.val - 18, by omega⟩)

/-- The stacked weights at an index. -/
theorem hostWhead_apply (c : Dev nD) (o : Fin 54) (a : Fin 512) : hostWhead m c (ix2 o a) = headW m c o a := by
  rw [hostWhead_eq]
  unfold headW
  pointwise

/-- The stacked biases at an index. -/
theorem hostBhead_apply (c : Dev nD) (o : Fin 54) : hostBhead m c (ix2 o 0) = headB m c o := by
  rw [hostBhead_eq]
  unfold headB
  pointwise

/-- The convolution's bias at an output channel. -/
theorem hostBconv_apply (c : Dev nD) (o : Fin 512) : hostBconv m c (ix2 o 0) = convB m c (ix1 o) := by
  rw [hostBconv_eq]
  pointwise

/-- At which block of its array each window stands at a point: the feature map's and the two results' at the point's batch,
    the others at their only block. -/
theorem index_at : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0] := by
  decide +kernel

/-- The block of the feature map at point `t` is batch `t`. -/
theorem iblk_x (c : Dev nD) (t : Fin grid0.N) (y : S1x512x1850.Idx) :
    (iblk m c 0 t : Vec Ideal S1x512x1850 .f32) y = hostX m c (ix3 ⟨t.val, Nat.lt_of_lt_of_eq t.isLt N_0⟩ (y 1) (y 2)) := by
  unfold hostX
  blk_ext [iblk, index_at t]

/-- Window 1's block is the whole of its array. -/
theorem iblk_wk (c : Dev nD) (t : Fin grid0.N) : (iblk m c 1 t : Vec Ideal S512x4608 .bf16) = hostWk m c := by
  funext y
  unfold hostWk
  blk_ext [iblk, index_at t]

/-- Window 2's block is the whole of its array. -/
theorem iblk_whead (c : Dev nD) (t : Fin grid0.N) : (iblk m c 2 t : Vec Ideal S54x512 .bf16) = hostWhead m c := by
  funext y
  unfold hostWhead
  blk_ext [iblk, index_at t]

/-- Window 3's block is the whole of its array. -/
theorem iblk_bhead (c : Dev nD) (t : Fin grid0.N) : (iblk m c 3 t : Vec Ideal S54x1 .f32) = hostBhead m c := by
  funext y
  unfold hostBhead
  blk_ext [iblk, index_at t]

/-- Window 4's block is the whole of its array. -/
theorem iblk_bconv (c : Dev nD) (t : Fin grid0.N) : (iblk m c 4 t : Vec Ideal S512x1 .f32) = hostBconv m c := by
  funext y
  unfold hostBconv
  blk_ext [iblk, index_at t]

end Cert.KernelIdeal.Host
-- ==== Proof.KernelValue.lean ====
module

public import proofs.«01_k».proof.Proof.Spec
public import proofs.«01_k».proof.Proof.KernelHost

set_option maxRecDepth 16384

@[expose] public section

open Idealize Idealize.ShloMosaic Idealize.ShloMosaic.Pipeline

noncomputable section

namespace Cert.KernelIdeal.Value

open Cert.KernelIdeal Cert.KernelIdeal.Gen Cert.KernelIdeal.Block Cert.KernelIdeal.Host

variable (m : (ℓ : Loc nD τ sig) → Buf (Elt Ideal) ℓ) (c : Dev nD)

/-- The batch of a grid point. -/
def batch (t : Fin grid0.N) : Fin 8 := ⟨t.val, Nat.lt_of_lt_of_eq t.isLt N_0⟩

/-- What tap `k` reads at a flat position is the bordered feature map at that position's row and column, moved by the tap. -/
theorem tapAt_eq (t : Fin grid0.N) (k : Fin 9) (a : Fin 512) (p : Fin 1850) :
    tapAt (iblk m c 0 t) k.val a p.val
      = Spec.padded (feats m c) (batch t) a (p.val / 37 + k.val / 3) (p.val % 37 + k.val % 3) := by
  have hp := p.isLt
  have hk := k.isLt
  unfold tapAt Spec.padded
  by_cases hedge : (k.val % 3 = 0 ∧ p.val % 37 = 0) ∨ (k.val % 3 = 2 ∧ p.val % 37 = 36)
  · rw [if_pos hedge, dif_neg (by omega)]
  · rw [if_neg hedge]
    unfold xrow
    by_cases hrow : 38 ≤ p.val + (k.val / 3 * 37 + k.val % 3) ∧ p.val + (k.val / 3 * 37 + k.val % 3) < 1888
    · rw [dif_pos hrow, dif_pos (by omega)]
      refine (iblk_x m c t _).trans ((hostX_apply m c _ _ _).trans ?_)
      refine congrArg (feats m c) ?_
      congr 1
      · exact Fin.ext (by change (p.val + (k.val / 3 * 37 + k.val % 3) - 38) / 37 = p.val / 37 + k.val / 3 - 1; omega)
      · exact Fin.ext (by change (p.val + (k.val / 3 * 37 + k.val % 3) - 38) % 37 = p.val % 37 + k.val % 3 - 1; omega)
    · rw [dif_neg hrow, dif_neg (by omega)]

/-- The body's first product is the convolution. -/
theorem product_eq (t : Fin grid0.N) (o : Fin 512) (p : Fin 1850) :
    k0_pay20 (iblk m c 1 t) (patches (iblk m c 0 t)) (ix2 o p)
      = Spec.conv (feats m c) (convW m c) (batch t) o (p.val / 37) (p.val % 37) := by
  rw [iblk_wk]
  pointwise [k0_pay20]
  refine Fin.sum_divmod_congr fun r hk ha => ?_
  rw [hostWk_apply m c o ⟨r.val / 512, hk⟩ ⟨r.val % 512, ha⟩ r (Nat.div_add_mod r.val 512).symm,
    patches_apply _ (r.val / 512) ⟨r.val % 512, ha⟩ r p (Nat.div_add_mod r.val 512).symm]
  exact congrArg (_ * ·) (tapAt_eq m c t ⟨r.val / 512, hk⟩ ⟨r.val % 512, ha⟩ p)

/-- Row `o` of the two heads over the hidden map, at one position of one batch. -/
def headAt (o : Fin 54) (b : Fin 8) (h w : ℕ) : EReal :=
  Spec.head (feats m c) (convW m c) (fun a => convB m c (ix1 a)) (headW m c o) (headB m c o) b h w

/-- The body's second product with its bias is the two heads stacked. -/
theorem heads_eq (t : Fin grid0.N) (o : Fin 54) (p : Fin 1850) :
    k0_pay1 (k0_pay20 (iblk m c 1 t) (patches (iblk m c 0 t))) (k0_pay21 (iblk m c 4 t)) (iblk m c 2 t) (iblk m c 3 t) (ix2 o p)
      = headAt m c o (batch t) (p.val / 37) (p.val % 37) := by
  rw [iblk_whead, iblk_bhead, iblk_bconv]
  pointwise [k0_pay1]
  refine congrArg₂ (· + ·) (Finset.sum_congr rfl fun a _ => ?_) (hostBhead_apply m c o)
  rw [hostWhead_apply, product_eq]
  pointwise [k0_pay21]
  rw [hostBconv_apply]
  rfl

/-- Channel `a` of the class result: the share, in the softmax of the rows `a mod 9` and `9 + a mod 9`, of the row `a`. -/
def clsAt (a : Fin 18) (b : Fin 8) (h w : ℕ) : EReal :=
  Spec.share (fun k : Fin 2 => headAt m c ⟨9 * k.val + a.val % 9, by omega⟩ b h w) ⟨a.val / 9, by omega⟩

/-- The class block that the body stores. -/
theorem cls_block (t : Fin grid0.N) (a : Fin 18) (p : Fin 1850) : ((outsAt0 m c t).1 : Vec Ideal S1x18x1850 .f32) (ix3 0 a p)
    = clsAt m c a (batch t) (p.val / 37) (p.val % 37) := by
  rw [outsAt_fst]
  pointwise [k0_pay2]
  simp only [heads_eq]
  have ha := a.isLt
  have hz (k : Fin 2) (o : Fin 54) (h : 9 * k.val + a.val % 9 = o.val) :
      headAt m c ⟨9 * k.val + a.val % 9, by omega⟩ (batch t) (p.val / 37) (p.val % 37)
        = headAt m c o (batch t) (p.val / 37) (p.val % 37) :=
    congrArg (fun o => headAt m c o (batch t) (p.val / 37) (p.val % 37)) (Fin.ext h)
  unfold clsAt
  split <;> rename_i h
  all_goals
    refine Spec.share_of (hz 0 _ ?_) (hz 1 _ ?_) (hz _ _ ?_)
    all_goals
      simp only [Fin.val_zero, Fin.val_one]
      omega

/-- The location block that the body stores. -/
theorem loc_block (t : Fin grid0.N) (a : Fin 36) (p : Fin 1850) : ((outsAt0 m c t).2 : Vec Ideal S1x36x1850 .f32) (ix3 0 a p)
    = headAt m c ⟨18 + a.val, by omega⟩ (batch t) (p.val / 37) (p.val % 37) := by
  rw [outsAt_snd]
  pointwise [k0_pay3]
  rw [heads_eq]

/-- Where an element of a point's class block stands in the class array. -/
theorem emb_cls (t : Fin grid0.N) (a : Fin 18) (p : Fin 1850) :
    ((win0_5.blk t).view.emb (ix3 0 a p : S1x18x1850.Idx) : S8x18x1850.Idx) = ix3 (batch t) a p := by
  unfold batch
  blk_ext [index_at t]

/-- Where an element of a point's location block stands in the location array. -/
theorem emb_loc (t : Fin grid0.N) (a : Fin 36) (p : Fin 1850) :
    ((win0_6.blk t).view.emb (ix3 0 a p : S1x36x1850.Idx) : S8x36x1850.Idx) = ix3 (batch t) a p := by
  unfold batch
  blk_ext [index_at t]

/-- The class array in closed form. -/
def clsArr : Vec Ideal S8x18x1850 .f32 := fun i => clsAt m c (i 1) (i 0) ((i 2).val / 37) ((i 2).val % 37)

/-- The location array in closed form. -/
def locArr : Vec Ideal S8x36x1850 .f32 := fun i =>
  headAt m c ⟨18 + (i 1).val, by have := (i 1).isLt; change (i 1).val < 36 at this; omega⟩ (i 0) ((i 2).val / 37) ((i 2).val % 37)

/-- The class array after the run. -/
theorem cls_array : (dats m 0 c).arrAt 5 (cfgs 0).N = clsArr m c := by
  refine (dats m 0 c).arrAt_eq_of_covers 5 _ (by decide +kernel) fun t hf y => ?_
  rw [after0_5]
  obtain ⟨a, p, rfl⟩ : ∃ (a : Fin 18) (p : Fin 1850), y = ix3 0 a p :=
    ⟨y 1, y 2, (eq_ix3 y).trans (congrArg (fun z => ix3 z (y 1) (y 2)) (Subsingleton.elim (α := Fin 1) _ _))⟩
  exact (cls_block m c t a p).trans (congrArg (clsArr m c) (emb_cls t a p)).symm

/-- The location array after the run. -/
theorem loc_array : (dats m 0 c).arrAt 6 (cfgs 0).N = locArr m c := by
  refine (dats m 0 c).arrAt_eq_of_covers 6 _ (by decide +kernel) fun t hf y => ?_
  rw [after0_6]
  obtain ⟨a, p, rfl⟩ : ∃ (a : Fin 36) (p : Fin 1850), y = ix3 0 a p :=
    ⟨y 1, y 2, (eq_ix3 y).trans (congrArg (fun z => ix3 z (y 1) (y 2)) (Subsingleton.elim (α := Fin 1) _ _))⟩
  exact (loc_block m c t a p).trans (congrArg (locArr m c) (emb_loc t a p)).symm

end Cert.KernelIdeal.Value
-- ==== Proof.KernelRun.lean ====
module

public import proofs.«01_k».proof.Proof.KernelValue

set_option maxRecDepth 16384

@[expose] public section

open Idealize Idealize.SL Idealize.SL.Sem Idealize.ShloMosaic Idealize.ShloMosaic.Pipeline

noncomputable section

namespace Cert.KernelIdeal.Run

open Cert.KernelIdeal Cert.KernelIdeal.Gen Cert.KernelIdeal.Value

variable (m : (ℓ : Loc nD τ sig) → Buf (Elt Ideal) ℓ) (g : Dev nD → PrngReg)

/-- The class result in closed form. -/
def clsOut (c : Dev nD) : Vec Ideal S8x18x50x37 .f32 := fun i => clsAt m c (i 1) (i 0) (i 2).val (i 3).val

/-- The location result in closed form. -/
def locOut (c : Dev nD) : Vec Ideal S8x36x50x37 .f32 := fun i =>
  headAt m c ⟨18 + (i 1).val, by have := (i 1).isLt; change (i 1).val < 36 at this; omega⟩ (i 0) (i 2).val (i 3).val

/-- Splitting the class array's last axis into rows and columns gives the class result. -/
theorem reshape_cls (c : Dev nD) : shapeCast S8x18x50x37 (clsArr m c) shapeCasts_S8x18x1850_S8x18x50x37 = clsOut m c := by
  funext i
  idx_vars i
  pointwise
  have h3 := i3.isLt
  change clsAt m c i1 i0 ((i2.val * 37 + i3.val) / 37) ((i2.val * 37 + i3.val) % 37) = clsAt m c i1 i0 i2.val i3.val
  rw [show (i2.val * 37 + i3.val) / 37 = i2.val by omega, show (i2.val * 37 + i3.val) % 37 = i3.val by omega]

/-- Splitting the location array's last axis into rows and columns gives the location result. -/
theorem reshape_loc (c : Dev nD) : shapeCast S8x36x50x37 (locArr m c) shapeCasts_S8x36x1850_S8x36x50x37 = locOut m c := by
  funext i
  idx_vars i
  pointwise
  have h3 := i3.isLt
  change headAt m c ⟨18 + i1.val, _⟩ i0 ((i2.val * 37 + i3.val) / 37) ((i2.val * 37 + i3.val) % 37)
    = headAt m c ⟨18 + i1.val, _⟩ i0 i2.val i3.val
  rw [show (i2.val * 37 + i3.val) / 37 = i2.val by omega, show (i2.val * 37 + i3.val) % 37 = i3.val by omega]

/-- The class result as the operations after the region leave it. -/
theorem after_cls (c : Dev nD) : afterTail₀ cfgs (dats m) 0 (V0 m) [hostOps1] c main_v12 = clsOut m c := by
  unfold afterTail₀
  simp only [List.flatten_cons, List.flatten_nil, List.append_nil]
  after_results
  refine Eq.trans ?_ (reshape_cls m c)
  exact congrArg (fun a => shapeCast S8x18x50x37 a shapeCasts_S8x18x1850_S8x18x50x37)
    ((withArrays_arr (cfgs 0).spec (by decide) c (V0 m c) (fun w => (dats m 0 c).arrAt w (cfgs 0).N) 5).trans (cls_array m c))

/-- The location result as the operations after the region leave it. -/
theorem after_loc (c : Dev nD) : afterTail₀ cfgs (dats m) 0 (V0 m) [hostOps1] c main_v13 = locOut m c := by
  unfold afterTail₀
  simp only [List.flatten_cons, List.flatten_nil, List.append_nil]
  after_results
  refine Eq.trans ?_ (reshape_loc m c)
  exact congrArg (fun a => shapeCast S8x36x50x37 a shapeCasts_S8x36x1850_S8x36x50x37)
    ((withArrays_arr (cfgs 0).spec (by decide) c (V0 m c) (fun w => (dats m 0 c).arrAt w (cfgs 0).N) 6).trans (loc_array m c))

/-- Every run ends with the two results in closed form. -/
theorem results : θ_run (defs (F := Ideal)) (onTc (τ := τ) (main (F := Ideal))) ⟨m, fun _ => 0, g⟩ (fun r => ∀ c : Dev nD,
    r.2.mem ((c.tc : Thread nD τ).loc main_v12) = clsOut m c ∧ r.2.mem ((c.tc : Thread nD τ).loc main_v13) = locOut m c) := by
  run_from Gen.run_main m g
  · exact after_cls m c
  · exact after_loc m c

end Cert.KernelIdeal.Run
-- ==== Proof.RefValue.lean ====
module

public import proofs.«01_k».proof.Proof.Spec
public import Idealize.ShloMosaic.Lib.Pointwise
public import Idealize.ShloMosaic.Lib.Tactic.CleanTypes
public import proofs.«01_k».proof.Proof.Gen.ReferenceIdeal.Read

set_option maxRecDepth 16384

@[expose] public section

open Idealize Idealize.ShloMosaic Idealize.ShloMosaic.Pipeline

noncomputable section

namespace Cert.ReferenceIdeal.Closed

open Cert.ReferenceIdeal Cert.ReferenceIdeal.Gen Cert.ReferenceIdeal.Read

/-- The zero that pads the feature map is zero. -/
theorem pad_zero (i : S_.Idx) : val_main_call0_v0 (F := Ideal) i = 0 := by
  rw [val_main_call0_v0_apply, val_main_c_apply]
  change (((0#32 : BitVec 32).toInt : ℝ) : EReal) = 0
  simp

/-- The padded feature map at an index. -/
theorem pad_eq (x : Vec Ideal S8x512x50x37 .f32) (b : Fin 8) (c : Fin 512) (u : Fin 52) (v : Fin 39) :
    val_main_v0 (F := Ideal) x (ix4 b c u v) = Spec.padded x b c u.val v.val := by
  unfold val_main_v0
  clean_types
  pointwise
  unfold Spec.padded
  by_cases hb : (1 ≤ u.val ∧ u.val ≤ 50) ∧ 1 ≤ v.val ∧ v.val ≤ 37
  · rw [dif_pos hb, dif_pos (by omega)]
  · rw [dif_neg hb, dif_neg (by omega)]
    exact pad_zero _

/-- One tap's product, moved back to channels second, is the tap: for any window row and column. -/
theorem tap_eq (x : Vec Ideal S8x512x50x37 .f32) (W : Vec Ideal S512x512x3x3 .f32) (i j : Nat) (hi : i < 3) (hj : j < 3)
    (hs : S8x512x52x39.Slices ![0, 0, i, j] S8x512x50x37) (hw : S512x512x3x3.Slices ![0, 0, i, j] S512x512x1x1)
    (b : Fin 8) (o : Fin 512) (h : Fin 50) (w : Fin 37) :
    transpose S8x512x50x37 [0, 3, 1, 2] (Host.dotGeneral (F := Ideal) (φ₁ := .f32) (φ₂ := .f32) dot_S8x512x50x37_S512x512_S8x50x37x512_1_1_023_0_n_n none
      (extractStridedSlice S8x512x50x37 ![0, 0, i, j] (val_main_v0 (F := Ideal) x) hs)
      (shapeCast S512x512 (extractStridedSlice S512x512x1x1 ![0, 0, i, j] W hw) shapeCasts_S512x512x1x1_S512x512))
      transposes_S8x50x37x512_S8x512x50x37_0_3_1_2 (ix4 b o h w) = Spec.tap x W b o h.val w.val ⟨i, hi⟩ ⟨j, hj⟩ := by
  pointwise
  unfold Spec.tap
  refine Finset.sum_congr rfl fun c _ => ?_
  rw [pad_eq, mul_comm]
  congr 2 <;> exact Nat.add_comm _ _

/-- The nine products added up are the convolution. -/
theorem conv_eq (x : Vec Ideal S8x512x50x37 .f32) (W : Vec Ideal S512x512x3x3 .f32) (b : Fin 8) (o : Fin 512) (h : Fin 50) (w : Fin 37) :
    val_main_v53 (F := Ideal) x W (ix4 b o h w) = Spec.conv x W b o h.val w.val := by
  have tap (i j : Nat) (hi : i < 3) (hj : j < 3) hs hw := tap_eq x W i j hi hj hs hw b o h w
  have t0 : val_main_v5 (F := Ideal) x W (ix4 b o h w) = Spec.tap x W b o h.val w.val 0 0 := tap 0 0 (by omega) (by omega) _ _
  have t1 : val_main_v10 (F := Ideal) x W (ix4 b o h w) = Spec.tap x W b o h.val w.val 0 1 := tap 0 1 (by omega) (by omega) _ _
  have t2 : val_main_v16 (F := Ideal) x W (ix4 b o h w) = Spec.tap x W b o h.val w.val 0 2 := tap 0 2 (by omega) (by omega) _ _
  have t3 : val_main_v22 (F := Ideal) x W (ix4 b o h w) = Spec.tap x W b o h.val w.val 1 0 := tap 1 0 (by omega) (by omega) _ _
  have t4 : val_main_v28 (F := Ideal) x W (ix4 b o h w) = Spec.tap x W b o h.val w.val 1 1 := tap 1 1 (by omega) (by omega) _ _
  have t5 : val_main_v34 (F := Ideal) x W (ix4 b o h w) = Spec.tap x W b o h.val w.val 1 2 := tap 1 2 (by omega) (by omega) _ _
  have t6 : val_main_v40 (F := Ideal) x W (ix4 b o h w) = Spec.tap x W b o h.val w.val 2 0 := tap 2 0 (by omega) (by omega) _ _
  have t7 : val_main_v46 (F := Ideal) x W (ix4 b o h w) = Spec.tap x W b o h.val w.val 2 1 := tap 2 1 (by omega) (by omega) _ _
  have t8 : val_main_v52 (F := Ideal) x W (ix4 b o h w) = Spec.tap x W b o h.val w.val 2 2 := tap 2 2 (by omega) (by omega) _ _
  rw [val_main_v53_apply, val_main_v47_apply, val_main_v41_apply, val_main_v35_apply, val_main_v29_apply, val_main_v23_apply,
    val_main_v17_apply, val_main_v11_apply, t0, t1, t2, t3, t4, t5, t6, t7, t8, Spec.conv_taps]
  rfl

/-- The hidden map at an index. -/
theorem hidden_eq (x : Vec Ideal S8x512x50x37 .f32) (W : Vec Ideal S512x512x3x3 .f32) (β : Vec Ideal S512 .f32)
    (b : Fin 8) (o : Fin 512) (h : Fin 50) (w : Fin 37) :
    val_main_v57 (F := Ideal) x W β (ix4 b o h w) = Spec.hidden x W (fun a => β (ix1 a)) b o h.val w.val := by
  unfold val_main_v57 val_main_v56 val_main_v55 val_main_v54 val_main_call1_v0 val_main_call1_cst
  clean_types
  pointwise
  rw [conv_eq]
  rfl

/-- The class scores at an index. -/
theorem scores_eq (x : Vec Ideal S8x512x50x37 .f32) (W : Vec Ideal S512x512x3x3 .f32) (β : Vec Ideal S512 .f32)
    (w₁ : Vec Ideal S18x512x1x1 .f32) (b₁ : Vec Ideal S18 .f32) (b : Fin 8) (a : Fin 18) (h : Fin 50) (w : Fin 37) :
    val_main_v63 (F := Ideal) x W β w₁ b₁ (ix4 b a h w)
      = Spec.head x W (fun a => β (ix1 a)) (fun o => w₁ (ix4 a o 0 0)) (b₁ (ix1 a)) b h.val w.val := by
  unfold val_main_v63 val_main_v62 val_main_v61 val_main_v60 val_main_v59 val_main_v58
  clean_types
  pointwise
  unfold Spec.head
  exact congrArg (· + _) (Finset.sum_congr rfl fun o _ => by rw [hidden_eq, mul_comm])

/-- The location result at an index. -/
theorem loc_eq (x : Vec Ideal S8x512x50x37 .f32) (W : Vec Ideal S512x512x3x3 .f32) (β : Vec Ideal S512 .f32)
    (w₁ : Vec Ideal S36x512x1x1 .f32) (b₁ : Vec Ideal S36 .f32) (b : Fin 8) (a : Fin 36) (h : Fin 50) (w : Fin 37) :
    val_main_v69 (F := Ideal) x W β w₁ b₁ (ix4 b a h w)
      = Spec.head x W (fun a => β (ix1 a)) (fun o => w₁ (ix4 a o 0 0)) (b₁ (ix1 a)) b h.val w.val := by
  unfold val_main_v69 val_main_v68 val_main_v67 val_main_v66 val_main_v65 val_main_v64
  clean_types
  pointwise
  unfold Spec.head
  exact congrArg (· + _) (Finset.sum_congr rfl fun o _ => by rw [hidden_eq, mul_comm])

/-- The class result at an index. -/
theorem cls_eq (x : Vec Ideal S8x512x50x37 .f32) (W : Vec Ideal S512x512x3x3 .f32) (β : Vec Ideal S512 .f32)
    (w₁ : Vec Ideal S18x512x1x1 .f32) (b₁ : Vec Ideal S18 .f32) (b : Fin 8) (a : Fin 18) (h : Fin 50) (w : Fin 37) :
    val_main_v82 (F := Ideal) x W β w₁ b₁ (ix4 b a h w)
      = Spec.share (fun k : Fin 2 => Spec.head x W (fun a => β (ix1 a)) (fun o => w₁ (ix4 (⟨9 * k.val + a.val % 9, by omega⟩ : Fin 18) o 0 0))
          (b₁ (ix1 (⟨9 * k.val + a.val % 9, by omega⟩ : Fin 18))) b h.val w.val) ⟨a.val / 9, by omega⟩ := by
  unfold val_main_v82 val_main_v81 val_main_v80 val_main_v79 val_main_v78 val_main_v77 val_main_v76 val_main_v75 val_main_v74
    val_main_v73 val_main_v72 val_main_v71 val_main_v70 val_main_cst val_main_cst_0 val_main_cst_1
  clean_types
  pointwise
  have score (q : Fin 18) (p : Fin 50) (k : Fin 2) (hq : q.val = 9 * k.val + a.val % 9) (hp : p.val = h.val) :
      val_main_v63 (F := Ideal) x W β w₁ b₁ (ix4 b q p w)
        = Spec.head x W (fun a => β (ix1 a)) (fun o => w₁ (ix4 (⟨9 * k.val + a.val % 9, by omega⟩ : Fin 18) o 0 0))
          (b₁ (ix1 (⟨9 * k.val + a.val % 9, by omega⟩ : Fin 18))) b h.val w.val := by
    rw [show (⟨9 * k.val + a.val % 9, by omega⟩ : Fin 18) = q from Fin.ext hq.symm, show p = h from Fin.ext hp]
    exact scores_eq x W β w₁ b₁ b q h w
  refine Spec.share_of_folds ?_ (fun k => ?_) (fun k => ?_) ?_
  · simp [Ideal.ofBits, Ideal.ieee]
  · refine score _ _ k ?_ ?_ <;> dsimp only <;> omega
  · refine score _ _ k ?_ rfl
    dsimp only
    omega
  · refine (score a h ⟨a.val / 9, by omega⟩ ?_ rfl).symm
    dsimp only
    omega

end Cert.ReferenceIdeal.Closed
-- ==== Proof.Equal.lean ====
module

public import proofs.«01_k».proof.Proof.KernelRun
public import proofs.«01_k».proof.Proof.RefValue

set_option maxRecDepth 16384

@[expose] public section

open Idealize Idealize.SL Idealize.SL.Sem Idealize.ShloMosaic Idealize.ShloMosaic.Pipeline

noncomputable section

namespace Cert.Equal

open Cert.KernelIdeal.Host Cert.KernelIdeal.Value Cert.KernelIdeal.Run

variable (m : (ℓ : Loc Cert.KernelIdeal.nD Cert.KernelIdeal.τ Cert.KernelIdeal.sig) → Buf (Elt Ideal) ℓ)

/-- A row of the stacked heads below the eighteenth is a row of the class head. -/
theorem head_cls (c : Dev Cert.KernelIdeal.nD) (o : Fin 54) (q : Fin 18) (ho : o.val = q.val) (b : Fin 8) (h w : ℕ) :
    headAt m c o b h w = Spec.head (feats m c) (convW m c) (fun a => convB m c (ix1 a)) (fun a => clsW m c (ix4 q a 0 0)) (clsB m c (ix1 q)) b h w := by
  have hlt : o.val < 18 := by omega
  have hq : (⟨o.val, hlt⟩ : Fin 18) = q := Fin.ext ho
  unfold headAt
  congr 1
  · funext a
    unfold headW
    rw [dif_pos hlt, hq]
  · unfold headB
    rw [dif_pos hlt, hq]

/-- A row of the stacked heads from the eighteenth on is a row of the location head. -/
theorem head_loc (c : Dev Cert.KernelIdeal.nD) (o : Fin 54) (q : Fin 36) (ho : o.val = 18 + q.val) (b : Fin 8) (h w : ℕ) :
    headAt m c o b h w = Spec.head (feats m c) (convW m c) (fun a => convB m c (ix1 a)) (fun a => locW m c (ix4 q a 0 0)) (locB m c (ix1 q)) b h w := by
  have hge : ¬ o.val < 18 := by omega
  have hq : (⟨o.val - 18, by omega⟩ : Fin 36) = q := Fin.ext (by dsimp only; omega)
  unfold headAt
  congr 1
  · funext a
    unfold headW
    rw [dif_neg hge, hq]
  · unfold headB
    rw [dif_neg hge, hq]

/-- The reference's class result on the kernel's arguments is the kernel's. -/
theorem cls_same (c : Dev Cert.KernelIdeal.nD) :
    Cert.ReferenceIdeal.Read.val_main_v82 (F := Ideal) (feats m c) (convW m c) (convB m c) (clsW m c) (clsB m c) = clsOut m c := by
  funext i
  idx_vars i
  rw [Cert.ReferenceIdeal.Closed.cls_eq]
  change _ = clsAt m c i1 i0 i2.val i3.val
  unfold clsAt
  congr 1
  funext k
  exact (head_cls m c _ _ rfl _ _ _).symm

/-- The reference's location result on the kernel's arguments is the kernel's. -/
theorem loc_same (c : Dev Cert.KernelIdeal.nD) :
    Cert.ReferenceIdeal.Read.val_main_v69 (F := Ideal) (feats m c) (convW m c) (convB m c) (locW m c) (locB m c) = locOut m c := by
  funext i
  idx_vars i
  rw [Cert.ReferenceIdeal.Closed.loc_eq]
  exact (head_loc m c _ _ rfl _ _ _).symm

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel runs to the end from any memory, keeps its arguments and leaves every counter at zero. -/
theorem frame_kernel : @Cert.quiescent_Kernel Cert.Kernel.Gen.facts := fun m g _ => Cert.Kernel.Gen.frame m g

/-- The idealized kernel runs to the end from any memory, keeps its arguments and leaves every counter at zero. -/
theorem frame_ideal : @Cert.quiescent_KernelIdeal Cert.KernelIdeal.Gen.facts := fun m g _ => Cert.KernelIdeal.Gen.frame m g

/-- The idealized reference runs to the end and keeps its arguments; it has no counter that could end elsewhere than at zero. -/
theorem frame_reference : @Cert.quiescent_ReferenceIdeal Cert.ReferenceIdeal.Gen.facts := fun m g _ =>
  (θ_run Cert.ReferenceIdeal.defs _ _).mono (fun r h => ⟨fun c => (h c).2.2, sem_eq_zero_of_no_sems (by decide) r.2⟩)
    (Cert.ReferenceIdeal.Value.run (F := Ideal) m g)

/-- The idealized kernel and the idealized reference, run on equal arguments, end with equal class results and equal
    location results. -/
theorem equal_results : @Cert.algebraic_KernelIdeal_ReferenceIdeal Cert.KernelIdeal.Gen.facts Cert.ReferenceIdeal.Gen.facts := by
  intro m g m' g' _ hagree
  refine ⟨Cert.KernelIdeal.Run.clsOut m, Cert.KernelIdeal.Run.locOut m, ?_, ?_⟩
  · exact (θ_run Cert.KernelIdeal.defs _ _).mono (fun r h c => ⟨(h.1 c).1, (h.1 c).2, h.2 c⟩)
      (θ_run_and (Cert.KernelIdeal.Run.results m g) (Cert.KernelIdeal.Gen.unchanged m g))
  · refine (θ_run Cert.ReferenceIdeal.defs _ _).mono (fun r h c => ?_) (Cert.ReferenceIdeal.Value.run (F := Ideal) m' g')
    obtain ⟨a0, _, _, a3, a4, a5, a6, a7, a8⟩ := hagree c
    refine ⟨(h c).1.trans ?_, (h c).2.1.trans ?_, (h c).2.2⟩
    · rw [Cert.ReferenceIdeal.Read.val_main_v82_eq, a0, a3, a4, a5, a6]
      exact Cert.Equal.cls_same m c
    · rw [Cert.ReferenceIdeal.Read.val_main_v69_eq, a0, a3, a4, a7, a8]
      exact Cert.Equal.loc_same m c

/-- The claim: the three frames, the idealization, and the equality of the two results. -/
theorem claim : Cert.Claim := ⟨Cert.Kernel.Gen.facts, Cert.KernelIdeal.Gen.facts, Cert.ReferenceIdeal.Gen.facts,
  frame_kernel, frame_ideal, frame_reference, trivial, equal_results⟩

end Cert.Proof

end
